-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_levels_exist [hPre_levels_exist : Cert.Pre_levels_exist.Facts] (m : (ℓ : Loc Cert.KernelIdeal.nD Cert.KernelIdeal.τ Cert.KernelIdeal.sig) → Buf (Elt Ideal) ℓ) : Prop :=
  ∀ c : Dev Cert.KernelIdeal.nD,
    (Cert.Pre_levels_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_levels_exist [hPre_levels_exist : Cert.Pre_levels_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_levels_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_levels_exist [hKernelIdeal : Cert.KernelIdeal.Facts] [hPre_levels_exist : Cert.Pre_levels_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_levels_exist m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_levels_exist [hReferenceIdeal : Cert.ReferenceIdeal.Facts] [hPre_levels_exist : Cert.Pre_levels_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_levels_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_levels_exist [hKernelIdeal : Cert.KernelIdeal.Facts] [hReferenceIdeal : Cert.ReferenceIdeal.Facts] [hPre_levels_exist : Cert.Pre_levels_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_levels_exist m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_levels_exist : Cert.Pre_levels_exist.Facts),
    quiescent_Kernel (hKernel := hKernel)
    ∧ quiescent_KernelIdeal (hKernelIdeal := hKernelIdeal)
    ∧ quiescent_KernelIdeal_pre_levels_exist (hKernelIdeal := hKernelIdeal) (hPre_levels_exist := hPre_levels_exist)
    ∧ quiescent_ReferenceIdeal (hReferenceIdeal := hReferenceIdeal)
    ∧ quiescent_ReferenceIdeal_pre_levels_exist (hReferenceIdeal := hReferenceIdeal) (hPre_levels_exist := hPre_levels_exist)
    ∧ preserves_Kernel_KernelIdeal
    ∧ algebraic_KernelIdeal_ReferenceIdeal_pre_levels_exist (hKernelIdeal := hKernelIdeal) (hReferenceIdeal := hReferenceIdeal) (hPre_levels_exist := hPre_levels_exist)
-- ==== Pre_levels_exist.lean ====
abbrev S16x3x32x32 : Shape := ⟨4, ![16, 3, 32, 32]⟩
abbrev S3072x4096 : Shape := ⟨2, ![3072, 4096]⟩
abbrev S256x4096 : Shape := ⟨2, ![256, 4096]⟩
abbrev S_ : Shape := ⟨0, ![]⟩

class Facts : Prop where
  bcast_S_S16x3x32x32 : S_.BroadcastsInDim S16x3x32x32 (![] : Fin 0 → Fin S16x3x32x32.rank)
  reducesTo_S16x3x32x32_S_d0_1_2_3 : S16x3x32x32.ReducesTo [0, 1, 2, 3] S_
  h_S_ : 0 < S_.numel
  bcast_S_S3072x4096 : S_.BroadcastsInDim S3072x4096 (![] : Fin 0 → Fin S3072x4096.rank)
  reducesTo_S3072x4096_S_d0_1 : S3072x4096.ReducesTo [0, 1] S_
  bcast_S_S256x4096 : S_.BroadcastsInDim S256x4096 (![] : Fin 0 → Fin S256x4096.rank)
  reducesTo_S256x4096_S_d0_1 : S256x4096.ReducesTo [0, 1] S_

variable [Facts]

def fn_part1 {F : FTy → Type} [FloatOps F] (main_v8 : IVec S_ 1) (main_v12 : IVec S_ 1) (main_v15 : IVec S256x4096 1) (main_c_5 : IVec S_ 1) : IVec S_ 1 :=
  let main_v16 : IVec S_ 1 := (fun x v => Host.reduce IntOp.andi x v reducesTo_S256x4096_S_d0_1 h_S_) main_v15 main_c_5
  let main_v17 : IVec S_ 1 := andi main_v8 main_v12
  let main_v18 : IVec S_ 1 := andi main_v17 main_v16
  main_v18

def fn {F : FTy → Type} [FloatOps F] (main_arg0 : FVec F S16x3x32x32 .f32) (main_arg1 : FVec F S3072x4096 .f32) (main_arg2 : FVec F S256x4096 .f32) : IVec S_ 1 :=
  let main_cst : FVec F S_ .f32 := constant S_ .f32 0x437F0000#32
  let main_v0 : FVec F S16x3x32x32 .f32 := broadcastInDim S16x3x32x32 ![] bcast_S_S16x3x32x32 main_cst
  let main_v1 : FVec F S16x3x32x32 .f32 := mulf main_arg0 main_v0
  let main_v2 : IVec S16x3x32x32 32 := fptosi 32 main_v1
  let main_c : IVec S_ 32 := constantI S_ 32 0#32
  let main_v3 : IVec S16x3x32x32 32 := broadcastInDim S16x3x32x32 ![] bcast_S_S16x3x32x32 main_c
  let main_v4 : IVec S16x3x32x32 1 := cmpi .sge main_v2 main_v3
  let main_c_0 : IVec S_ 32 := constantI S_ 32 255#32
  let main_v5 : IVec S16x3x32x32 32 := broadcastInDim S16x3x32x32 ![] bcast_S_S16x3x32x32 main_c_0
  let main_v6 : IVec S16x3x32x32 1 := cmpi .sle main_v2 main_v5
  let main_v7 : IVec S16x3x32x32 1 := andi main_v4 main_v6
  let main_c_1 : IVec S_ 1 := constantI S_ 1 1#1
  let main_v8 : IVec S_ 1 := (fun x v => Host.reduce IntOp.andi x v reducesTo_S16x3x32x32_S_d0_1_2_3 h_S_) main_v7 main_c_1
  let main_v9 : FVec F S3072x4096 .f32 := Host.absf main_arg1
  let main_cst_2 : FVec F S_ .f32 := constant S_ .f32 0x7F800000#32
  let main_v10 : FVec F S3072x4096 .f32 := broadcastInDim S3072x4096 ![] bcast_S_S3072x4096 main_cst_2
  let main_v11 : IVec S3072x4096 1 := cmpf .olt main_v9 main_v10
  let main_c_3 : IVec S_ 1 := constantI S_ 1 1#1
  let main_v12 : IVec S_ 1 := (fun x v => Host.reduce IntOp.andi x v reducesTo_S3072x4096_S_d0_1 h_S_) main_v11 main_c_3
  let main_v13 : FVec F S256x4096 .f32 := Host.absf main_arg2
  let main_cst_4 : FVec F S_ .f32 := constant S_ .f32 0x7F800000#32
  let main_v14 : FVec F S256x4096 .f32 := broadcastInDim S256x4096 ![] bcast_S_S256x4096 main_cst_4
  let main_v15 : IVec S256x4096 1 := cmpf .olt main_v13 main_v14
  let main_c_5 : IVec S_ 1 := constantI S_ 1 1#1
  fn_part1 (F := F) main_v8 main_v12 main_v15 main_c_5
-- ==== Kernel.lean ====
abbrev S16x3x32x32 : Shape := ⟨4, ![16, 3, 32, 32]⟩
abbrev S3072x4096 : Shape := ⟨2, ![3072, 4096]⟩
abbrev S256x4096 : Shape := ⟨2, ![256, 4096]⟩
abbrev S16x4096 : Shape := ⟨2, ![16, 4096]⟩
abbrev S3072x512 : Shape := ⟨2, ![3072, 512]⟩
abbrev S256x512 : Shape := ⟨2, ![256, 512]⟩
abbrev S16x512 : Shape := ⟨2, ![16, 512]⟩
abbrev S4096x3072 : Shape := ⟨2, ![4096, 3072]⟩
abbrev S16x3072 : Shape := ⟨2, ![16, 3072]⟩
abbrev S256x3072 : Shape := ⟨2, ![256, 3072]⟩
abbrev S1x3072 : Shape := ⟨2, ![1, 3072]⟩
abbrev S512 : Shape := ⟨1, ![512]⟩
abbrev S1x512 : Shape := ⟨2, ![1, 512]⟩

abbrev nBuf : Space → Nat
  | .hbm => 4
  | .vmem => 9
  | .smem => 0
  | _ => 0

abbrev bufTy : (tb : Table) → Fin (tcTables nBuf tb) → BufTy
  | .hbm, ⟨0, _⟩ => ⟨S16x3x32x32, .f32⟩
  | .hbm, ⟨1, _⟩ => ⟨S3072x4096, .f32⟩
  | .hbm, ⟨2, _⟩ => ⟨S256x4096, .f32⟩
  | .hbm, ⟨3, _⟩ => ⟨S16x4096, .f32⟩
  | .local _ .vmem, ⟨0, _⟩ => ⟨S16x3x32x32, .f32⟩
  | .local _ .vmem, ⟨1, _⟩ => ⟨S3072x512, .f32⟩
  | .local _ .vmem, ⟨2, _⟩ => ⟨S3072x512, .f32⟩
  | .local _ .vmem, ⟨3, _⟩ => ⟨S256x512, .f32⟩
  | .local _ .vmem, ⟨4, _⟩ => ⟨S256x512, .f32⟩
  | .local _ .vmem, ⟨5, _⟩ => ⟨S16x512, .f32⟩
  | .local _ .vmem, ⟨6, _⟩ => ⟨S16x512, .f32⟩
  | .local _ .vmem, ⟨7, _⟩ => ⟨S4096x3072, .fp8e4m3⟩
  | .local _ .vmem, ⟨8, _⟩ => ⟨S3072x512, .fp8e4m3⟩
  | _, _ => ⟨S16x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x3x32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x3x32x32 : Shape := ⟨4, ![16, 3, 32, 32]⟩
abbrev S3072x4096 : Shape := ⟨2, ![3072, 4096]⟩
abbrev S256x4096 : Shape := ⟨2, ![256, 4096]⟩
abbrev S16x3072 : Shape := ⟨2, ![16, 3072]⟩
abbrev S_ : Shape := ⟨0, ![]⟩
abbrev S16x3072x1 : Shape := ⟨3, ![16, 3072, 1]⟩
abbrev S1 : Shape := ⟨1, ![1]⟩
abbrev S1x1x1 : Shape := ⟨3, ![1, 1, 1]⟩
abbrev S16x3072x4096 : Shape := ⟨3, ![16, 3072, 4096]⟩
abbrev S1x3072x4096 : Shape := ⟨3, ![1, 3072, 4096]⟩
abbrev S16x4096 : Shape := ⟨2, ![16, 4096]⟩

abbrev nBuf : Space → Nat
  | .hbm => 45
  | .vmem => 0
  | .smem => 0
  | _ => 0

abbrev bufTy : (tb : Table) → Fin (tcTables nBuf tb) → BufTy
  | .hbm, ⟨0, _⟩ => ⟨S16x3x32x32, .f32⟩
  | .hbm, ⟨1, _⟩ => ⟨S3072x4096, .f32⟩
  | .hbm, ⟨2, _⟩ => ⟨S256x4096, .f32⟩
  | .hbm, ⟨3, _⟩ => ⟨S16x3072, .f32⟩
  | .hbm, ⟨4, _⟩ => ⟨S_, .f32⟩
  | .hbm, ⟨5, _⟩ => ⟨S16x3072, .f32⟩
  | .hbm, ⟨6, _⟩ => ⟨S16x3072, .f32⟩
  | .hbm, ⟨7, _⟩ => ⟨S16x3072, .i32⟩
  | .hbm, ⟨8, _⟩ => ⟨S_, .i32⟩
  | .hbm, ⟨9, _⟩ => ⟨S16x3072, .i32⟩
  | .hbm, ⟨10, _⟩ => ⟨S16x3072, .i1⟩
  | .hbm, ⟨11, _⟩ => ⟨S_, .i32⟩
  | .hbm, ⟨12, _⟩ => ⟨S16x3072, .i32⟩
  | .hbm, ⟨13, _⟩ => ⟨S16x3072, .i32⟩
  | .hbm, ⟨14, _⟩ => ⟨S16x3072, .i32⟩
  | .hbm, ⟨15, _⟩ => ⟨S16x3072x1, .i32⟩
  | .hbm, ⟨16, _⟩ => ⟨S1, .i32⟩
  | .hbm, ⟨17, _⟩ => ⟨S_, .i32⟩
  | .hbm, ⟨18, _⟩ => ⟨S16x3072x1, .i32⟩
  | .hbm, ⟨19, _⟩ => ⟨S16x3072x1, .i1⟩
  | .hbm, ⟨20, _⟩ => ⟨S1x1x1, .i32⟩
  | .hbm, ⟨21, _⟩ => ⟨S16x3072x1, .i32⟩
  | .hbm, ⟨22, _⟩ => ⟨S16x3072x1, .i1⟩
  | .hbm, ⟨23, _⟩ => ⟨S16x3072x1, .i1⟩
  | .hbm, ⟨24, _⟩ => ⟨S_, .i1⟩
  | .hbm, ⟨25, _⟩ => ⟨S16x3072, .i1⟩
  | .hbm, ⟨26, _⟩ => ⟨S16x3072x4096, .f32⟩
  | .hbm, ⟨27, _⟩ => ⟨S16x3072x4096, .i1⟩
  | .hbm, ⟨28, _⟩ => ⟨S_, .f32⟩
  | .hbm, ⟨29, _⟩ => ⟨S16x3072x4096, .f32⟩
  | .hbm, ⟨30, _⟩ => ⟨S16x3072x4096, .f32⟩
  | .hbm, ⟨31, _⟩ => ⟨S1x3072x4096, .f32⟩
  | .hbm, ⟨32, _⟩ => ⟨S16x3072x4096, .f32⟩
  | .hbm, ⟨33, _⟩ => ⟨S16x3072x4096, .f32⟩
  | .hbm, ⟨34, _⟩ => ⟨S_, .f32⟩
  | .hbm, ⟨35, _⟩ => ⟨S16x4096, .f32⟩
  | .hbm, ⟨36, _⟩ => ⟨S_, .f32⟩
  | .hbm, ⟨37, _⟩ => ⟨S16x4096, .f32⟩
  | .hbm, ⟨38, _⟩ => ⟨S16x4096, .i1⟩
  | .hbm, ⟨39, _⟩ => ⟨S_, .f32⟩
  | .hbm, ⟨40, _⟩ => ⟨S_, .f32⟩
  | .hbm, ⟨41, _⟩ => ⟨S16x4096, .f32⟩
  | .hbm, ⟨42, _⟩ => ⟨S16x4096, .f32⟩
  | .hbm, ⟨43, _⟩ => ⟨S16x4096, .f32⟩
  | .hbm, ⟨44, _⟩ => ⟨S16x4096, .f32⟩
  | _, _ => ⟨S16x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_cst_1 : Ref sig .tc := ⟨.hbm, 36, rfl⟩
abbrev main_v9 : Ref sig .tc := ⟨.hbm, 37, rfl⟩
abbrev main_v10 : Ref sig .tc := ⟨.hbm, 38, rfl⟩
abbrev main_cst_2 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v11 : Ref sig .tc := ⟨.hbm, 43, rfl⟩
abbrev main_v12 : Ref sig .tc := ⟨.hbm, 44, rfl⟩

abbrev nD : Nat := 1
abbrev τ : Topo := Topo.v7x

variable {F : FTy → Type} [FloatOps F]
-- ==== Proof.Rows.lean ====
module

public import proofs.«01_k».proof.Proof.Gen.KernelIdeal.Skeleton
public import Idealize.ShloMosaic.Lib.Pointwise
public import Idealize.ShloMosaic.Lib.IdealHost

@[expose] public section

set_option maxRecDepth 16384

noncomputable section

/-! What the kernel's pure steps compute, read at one element: the level each pixel names, the table of which level each
    pixel names (one block of 256 rows per image), and one row of the result from such a block. -/

namespace Cert.KernelIdeal.Fire

open Cert.KernelIdeal Cert.KernelIdeal.Gen Idealize.ShloMosaic Idealize.SL.Sem

/-- The decision on one component of the summed vector: one where the sum is positive, minus one elsewhere. -/
def fire (s : EReal) : EReal := if 0 < s then 1 else -1

/-- The pattern `0xBF800000` is minus one. -/
theorem minus_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num

/-- The level a pixel names: its brightness times 255, cut to a whole number. -/
def level (a : EReal) : BitVec 32 := Ideal.fptosi 32 (a * Ideal.ofBits .f32 0x437F0000#32)

/-- Pixel `p` of image `b`, in the order channel, row, column. -/
def pixel (x : Vec Ideal S16x3x32x32 .f32) (b : Fin 16) (p : Fin 3072) : EReal :=
  x (ix4 b ⟨p.val / 1024, by omega⟩ ⟨p.val / 32 % 32, by omega⟩ ⟨p.val % 32, by omega⟩)

/-- The kernel's integer array holds the level of every pixel. -/
theorem level_apply (x : Vec Ideal S16x3x32x32 .f32) (b : Fin 16) (p : Fin 3072) :
    k0_pay2 (F := Ideal) x (ix2 b p) = level (pixel x b p) := by
  pointwise [k0_pay2]
  rfl

/-- Storing the position block in the narrow format changes nothing in exact arithmetic. -/
theorem narrow_eq (w : Vec Ideal S3072x512 .f32) : k0_pay22 (F := Ideal) w = w := by
  funext j
  pointwise [k0_pay22]

/-- A comparison for equality, widened and turned into a number, is one or zero. -/
theorem bit_apply (a b : BitVec 32) :
    (FloatOps.sitofp FTy.f32 (BitVec.setWidth 32 (IntOp.cmpi CmpIPredicate.eq a b)) : Ideal FTy.f32) = if a = b then 1 else 0 := by
  show (((BitVec.setWidth 32 (IntOp.cmpi CmpIPredicate.eq a b)).toInt : ℝ) : EReal) = _
  unfold IntOp.cmpi
  by_cases h : a = b
  · simp [h]
  · rw [if_neg h, show (a == b) = false from beq_false_of_ne h]
    simp

/-- A block of the table of named levels: row `l`, column `p` holds one where pixel `p` of image `k` names level `l`. -/
theorem hot_apply (k : Fin 16) (h : Shape.Slices S16x3072 ![k.val, 0] S1x3072) (x : Vec Ideal S16x3x32x32 .f32) (l : Fin 256) (p : Fin 3072) :
    k0_pay8 (F := Ideal) (iota .tc S256x3072 32 [0] iota_S256x3072_d0_w32) (extractStridedSlice S1x3072 ![k.val, 0] (k0_pay2 (F := Ideal) x) h) (ix2 l p)
      = if BitVec.ofNat 32 l.val = level (pixel x k p) then 1 else 0 := by
  pointwise [k0_pay8]
  rw [level_apply, bit_apply]

/-- One row of the result: with `blk` the block of named levels, component `d` sums, over the levels, the positions of
    the pixels naming that level times the level's entry, and decides on the sum. -/
theorem row_apply (pos : Vec Ideal S3072x512 .fp8e4m3) (tab : Vec Ideal S256x512 .f32) (blk : Vec Ideal S256x3072 .fp8e4m3) (z : Fin 1) (d : Fin 512) :
    k0_pay23 pos tab blk (ix2 z d) = fire (∑ l : Fin 256, (∑ p : Fin 3072, blk (ix2 l p) * pos (ix2 p d)) * tab (ix2 l d)) := by
  pointwise [k0_pay23]
  rw [minus_one]
  rfl

end Cert.KernelIdeal.Fire

end
-- ==== Proof.Block.lean ====
module

public import proofs.«01_k».proof.Proof.Gen.KernelIdeal.Frame
public import proofs.«01_k».proof.Proof.Rows
public import Idealize.ShloMosaic.Lib.VecWindow

@[expose] public section

set_option maxRecDepth 16384

noncomputable section

/-! What one grid point leaves behind: the table of named levels (first point only) and its block of the result. -/

namespace Cert.KernelIdeal.Fire

open Cert.KernelIdeal Cert.KernelIdeal.Gen Idealize.ShloMosaic Idealize.ShloMosaic.TcCoe Idealize.SL.Sem

/-- The table of named levels for all images: row `256 * b + l`, column `p` is one where pixel `p` of image `b` names level `l`. -/
def named (x : Vec Ideal S16x3x32x32 .f32) : Vec Ideal S4096x3072 .fp8e4m3 := fun y =>
  if BitVec.ofNat 32 ((y 0).val % 256) = level (pixel x ⟨(y 0).val / 256, by have h : (y 0).val < 4096 := (y 0).isLt; omega⟩ (y 1)) then 1 else 0

/-- The result's component `d` for image `b`, from any table of named levels. -/
def fired (t : Vec Ideal S4096x3072 .fp8e4m3) (pos : Vec Ideal S3072x512 .f32) (tab : Vec Ideal S256x512 .f32) : Vec Ideal S16x512 .f32 := fun y =>
  fire (∑ l : Fin 256, (∑ p : Fin 3072, t (ix2 ⟨256 * (y 0).val + l.val, by have h : (y 0).val < 16 := (y 0).isLt; omega⟩ p) * pos (ix2 p (y 1))) * tab (ix2 l (y 1)))

/-- Any store of a result row: where the payload is the row computed from rows `256 k … 256 k + 255` of a buffer that
    reads as `t`, it is row `k` of `fired`. -/
theorem row_piece {sg : RefSig} {κ : Kind} {sp : Space} (v : View sg κ sp S4096x3072 .fp8e4m3) (f : v.ty.Contents (Elt Ideal))
    (t : Vec Ideal S4096x3072 .fp8e4m3) (hf : ∀ y, v.read (Elt Ideal) f y = t y)
    {pos pos' : Vec Ideal S3072x512 .f32} {tab tab' : Vec Ideal S256x512 .f32} (hpos : pos' = pos) (htab : tab' = tab)
    (k : ℕ) (inb : ∀ a, (![k, 0] : Fin 2 → ℕ) a + (![1, 512] : Fin 2 → ℕ) a ≤ S16x512.size a)
    (inb' : ∀ a, (![256 * k, 0] : Fin 2 → ℕ) a + S256x3072.size a ≤ S4096x3072.size a)
    (pay : Vec Ideal S1x512 .f32) (hpay : pay = k0_pay23 (F := Ideal) pos' tab' (v.readAt (Elt Ideal) (Rect.unit (s := S4096x3072) ![256 * k, 0] S256x3072.size inb').toLoadRect f))
    (x : (Rect.unit (s := S16x512) ![k, 0] ![1, 512] inb).shape.Idx) :
    pay x = fired t pos tab ((Rect.unit (s := S16x512) ![k, 0] ![1, 512] inb).emb x) := by
  subst hpos htab hpay
  obtain ⟨z, d, rfl⟩ : ∃ (z : Fin 1) (d : Fin 512), x = ix2 z d := ⟨x 0, x 1, by funext a; match a with | 0 => rfl | 1 => rfl⟩
  rw [row_apply]
  unfold fired
  have hz : z.val = 0 := by omega
  have h1 : ((Rect.unit (s := S16x512) ![k, 0] ![1, 512] inb).emb (ix2 z d)) 1 = d := Fin.ext (by show 0 + 1 * d.val = d.val; omega)
  have h0 : (((Rect.unit (s := S16x512) ![k, 0] ![1, 512] inb).emb (ix2 z d)) 0).val = k := by show k + 1 * z.val = k; omega
  rw [h1]
  congr 1
  refine Finset.sum_congr rfl fun l _ => ?_
  congr 1
  refine Finset.sum_congr rfl fun p _ => ?_
  congr 1
  rw [View.readAt_apply, hf]
  congr 1
  funext a
  apply Fin.ext
  match a with
  | 0 => show 256 * k + 1 * l.val = 256 * _ + l.val; rw [h0]; omega
  | 1 => show 0 + 1 * p.val = p.val; omega

/-- Any store of a block of named levels: block `k` of `named`. -/
theorem named_piece {x x' : Vec Ideal S16x3x32x32 .f32} (hx : x' = x) (k : ℕ) (hk : k < 16) (h : Shape.Slices S16x3072 ![k, 0] S1x3072)
    (o : ℕ) (ho : o = 256 * k) (inb : ∀ a, (![o, 0] : Fin 2 → ℕ) a + S256x3072.size a ≤ S4096x3072.size a)
    (pay : Vec Ideal S256x3072 .fp8e4m3)
    (hpay : pay = k0_pay8 (F := Ideal) (iota .tc S256x3072 32 [0] iota_S256x3072_d0_w32) (extractStridedSlice S1x3072 ![k, 0] (k0_pay2 (F := Ideal) x') h))
    (y : (Rect.unit (s := S4096x3072) ![o, 0] S256x3072.size inb).shape.Idx) :
    pay y = named x ((Rect.unit (s := S4096x3072) ![o, 0] S256x3072.size inb).emb y) := by
  subst hx hpay ho
  obtain ⟨l, p, rfl⟩ : ∃ (l : Fin 256) (p : Fin 3072), y = ix2 l p := ⟨y 0, y 1, by funext a; match a with | 0 => rfl | 1 => rfl⟩
  rw [hot_apply ⟨k, hk⟩]
  unfold named
  have h1 : ((Rect.unit (s := S4096x3072) ![256 * k, 0] S256x3072.size inb).emb (ix2 l p)) 1 = p := Fin.ext (by show 0 + 1 * p.val = p.val; omega)
  have h0 : (((Rect.unit (s := S4096x3072) ![256 * k, 0] S256x3072.size inb).emb (ix2 l p)) 0).val = 256 * k + l.val := by show 256 * k + 1 * l.val = _; omega
  have hl : (256 * k + l.val) % 256 = l.val := by have := l.isLt; omega
  have hb : (256 * k + l.val) / 256 = k := by have := l.isLt; omega
  simp only [h1, h0, hl, hb]

end Cert.KernelIdeal.Fire

end
-- ==== Proof.Points.lean ====
module

public import proofs.«01_k».proof.Proof.Block

@[expose] public section

set_option maxRecDepth 16384

noncomputable section

/-! The contents a grid point's stores leave, in closed form: the first point builds the table of named levels and its
    block of the result, every later point its block of the result from the table it finds. -/

namespace Cert.KernelIdeal.Fire

open Cert.KernelIdeal Cert.KernelIdeal.Gen Idealize.ShloMosaic Idealize.ShloMosaic.TcCoe Idealize.SL.Sem

variable (c : Dev nD) (i : grid0.Coords) (arg1 : Memref sig .tc .vmem S16x3x32x32 .f32) (harg1 : arg1.IsWhole) (arg2 : Memref sig .tc .vmem S3072x512 .f32) (harg2 : arg2.IsWhole)
  (arg3 : Memref sig .tc .vmem S256x512 .f32) (harg3 : arg3.IsWhole) (arg4 : Memref sig .tc .vmem S16x512 .f32) (harg4 : arg4.IsWhole)
  (arg5 : Memref sig .tc .vmem S4096x3072 .fp8e4m3) (harg5 : arg5.IsWhole) (arg6 : Memref sig .tc .vmem S3072x512 .fp8e4m3) (harg6 : arg6.IsWhole)
  (x0 : Vec Ideal S16x3x32x32 .f32) (x1 : Vec Ideal S3072x512 .f32) (x2 : Vec Ideal S256x512 .f32)

include c in
/-- A later point reads back the position block it stored. -/
theorem pos_later : kernelRun0_B.sl.v8 c arg2 harg2 arg6 x1 = x1 := by
  unfold kernelRun0_B.sl.v8 kernelRun0_B.sl.HS1_1
  rw [View.readCov_full, narrow_eq]
  rw [View.readAt_full, harg2.read_unread]

/-- A later point's result block is computed from the table of named levels it finds. -/
theorem block_later (hc0 : ¬cond0_0 i) (t : Vec Ideal S4096x3072 .fp8e4m3) :
    out0_B_3 c i arg1 harg1 arg2 harg2 arg3 harg3 arg4 harg4 arg5 harg5 arg6 harg6 hc0 x0 x1 x2 t = fired t x1 x2 := by
  funext y
  unfold out0_B_3
  refine View.read_writes_apply_of_pieces _ _ (fired t x1 x2) _ ?_ y (cover0_B_3 c i arg1 harg1 arg2 harg2 arg3 harg3 arg4 harg4 arg5 harg5 arg6 harg6 hc0 x0 x1 x2 t y)
  unfold kernelRun0_B
  dsimp only
  intro q hq
  have e8 := pos_later c arg2 harg2 arg6 x1
  have et : kernelRun0_B.sl.r c arg3 harg3 x2 = x2 := by
    unfold kernelRun0_B.sl.r
    rw [View.readAt_full, harg3.read_unread]
  have hf : ∀ y, arg5.view.read (Elt Ideal) (harg5.unread t) y = t y := fun y => by rw [harg5.read_unread]
  repeat
    rcases List.mem_cons.1 hq with rfl | hq
    · exact row_piece arg5.view (harg5.unread t) t hf e8 et _ (by decide) (by decide) _ rfl
  exact absurd hq List.not_mem_nil

include c in
/-- The first point reads back the position block it stored. -/
theorem pos_first : kernelRun0_A.sl.v8 c arg2 harg2 arg6 x1 = x1 := by
  unfold kernelRun0_A.sl.v8 kernelRun0_A.sl.HS1_1
  rw [View.readCov_full, narrow_eq]
  rw [View.readAt_full, harg2.read_unread]

set_option maxHeartbeats 2000000 in
include c in
/-- Every store the first point makes into the table's buffer is a block of the table of named levels. -/
theorem named_pieces : ∀ q ∈ kernelRun0_A.sl.HS0_16 (F := Ideal) c arg1 harg1 x0, ∀ y : q.1.shape.Idx, q.2 y = named x0 (q.1.emb y) := by
  have ex : View.readAt (Elt Ideal) arg1.view (Rect.unit ![0, 0, 0, 0] S16x3x32x32.size inb_S16x3x32x32_S16x3x32x32_0_0_0_0).toLoadRect (harg1.unread x0) = x0 := by
    rw [View.readAt_full, harg1.read_unread]
  unfold kernelRun0_A.sl.HS0_16
  intro q hq
  repeat
    rcases List.mem_cons.1 hq with rfl | hq
    · exact named_piece ex _ (by decide) (by decide) _ rfl (by decide) _ rfl
  exact absurd hq List.not_mem_nil

/-- The first point leaves the table of named levels in the carried buffer. -/
theorem table_first (hc0 : cond0_0 i) :
    sout0_A_0 c i arg1 harg1 arg2 harg2 arg3 harg3 arg4 harg4 arg5 harg5 arg6 harg6 hc0 x0 x1 x2 = named x0 := by
  funext y
  unfold sout0_A_0
  exact View.read_writes_apply_of_pieces _ _ (named x0) _ (named_pieces c arg1 harg1 x0) y (scover0_A_0 c i arg1 harg1 arg2 harg2 arg3 harg3 arg4 harg4 arg5 harg5 arg6 harg6 hc0 x0 x1 x2 y)

set_option maxHeartbeats 2000000 in
/-- The first point's result block is computed from the table of named levels it built. -/
theorem block_first (hc0 : cond0_0 i) :
    out0_A_3 c i arg1 harg1 arg2 harg2 arg3 harg3 arg4 harg4 arg5 harg5 arg6 harg6 hc0 x0 x1 x2 = fired (named x0) x1 x2 := by
  funext y
  unfold out0_A_3
  refine View.read_writes_apply_of_pieces _ _ (fired (named x0) x1 x2) _ ?_ y (cover0_A_3 c i arg1 harg1 arg2 harg2 arg3 harg3 arg4 harg4 arg5 harg5 arg6 harg6 hc0 x0 x1 x2 y)
  have hf : ∀ y, arg5.view.read (Elt Ideal) (arg5.view.writes (Elt Ideal) arg5.view.junk (kernelRun0_A.sl.HS0_16 c arg1 harg1 x0)) y = named x0 y := fun y =>
    View.read_writes_apply_of_pieces _ _ (named x0) _ (named_pieces c arg1 harg1 x0) y (scover0_A_0 c i arg1 harg1 arg2 harg2 arg3 harg3 arg4 harg4 arg5 harg5 arg6 harg6 hc0 x0 x1 x2 y)
  have e8 := pos_first c arg2 harg2 arg6 x1
  have et : View.readAt (Elt Ideal) arg3.view (Rect.unit ![0, 0] S256x512.size inb_S256x512_S256x512_0_0).toLoadRect (harg3.unread x2) = x2 := by
    rw [View.readAt_full, harg3.read_unread]
  unfold kernelRun0_A
  dsimp only
  intro q hq
  repeat
    rcases List.mem_cons.1 hq with rfl | hq
    · exact row_piece arg5.view _ (named x0) hf e8 et _ (by decide) (by decide) _ rfl
  exact absurd hq List.not_mem_nil

end Cert.KernelIdeal.Fire

end
-- ==== Proof.Array.lean ====
module

public import proofs.«01_k».proof.Proof.Points
public import proofs.«01_k».proof.Proof.Gen.KernelIdeal.Value

@[expose] public section

set_option maxRecDepth 16384

noncomputable section

/-! The result array after the whole run, in terms of the three argument arrays. -/

namespace Cert.KernelIdeal.Fire

open Cert.KernelIdeal Cert.KernelIdeal.Gen Idealize.ShloMosaic Idealize.ShloMosaic.TcCoe Idealize.SL.Sem

variable (m : (ℓ : Loc nD τ sig) → Buf (Elt Ideal) ℓ) (c : Dev nD)

/-- The images, the position vectors and the level vectors as the run finds them. -/
abbrev images : Vec Ideal S16x3x32x32 .f32 := m ((c : Thread nD τ).loc main_arg0)
abbrev positions : Vec Ideal S3072x4096 .f32 := m ((c : Thread nD τ).loc main_arg1)
abbrev levels : Vec Ideal S256x4096 .f32 := m ((c : Thread nD τ).loc main_arg2)

/-- Which block of each input array a grid point works on: all the images, and the point's own 512 columns of the two tables. -/
theorem block_index : ∀ t : Fin cfg0.N, (win0_0.index t (0 : Fin 4) = 0 ∧ win0_0.index t (1 : Fin 4) = 0 ∧ win0_0.index t (2 : Fin 4) = 0 ∧ win0_0.index t (3 : Fin 4) = 0)
    ∧ (win0_1.index t (0 : Fin 2) = 0 ∧ win0_1.index t (1 : Fin 2) = t.val) ∧ (win0_2.index t (0 : Fin 2) = 0 ∧ win0_2.index t (1 : Fin 2) = t.val) :=
  (by decide +kernel : ∀ t : Fin grid0.N, _)

/-- Every point sees all the images. -/
theorem images_block (t : Fin cfg0.N) : (iblk m c 0 t : Vec Ideal S16x3x32x32 .f32) = images m c := by
  obtain ⟨⟨h0, h1, h2, h3⟩, -, -⟩ := block_index t
  funext j
  unfold iblk
  rw [View.read_apply]
  show V m c main_arg0 _ = m (c.tc.loc main_arg0) _
  unfold V
  congr 1
  funext a
  apply Fin.ext
  match a with
  | ⟨0, _⟩ => show win0_0.index t (0 : Fin 4) * 16 + 1 * (j 0).val = (j 0).val; rw [h0]; omega
  | ⟨1, _⟩ => show win0_0.index t (1 : Fin 4) * 3 + 1 * (j 1).val = (j 1).val; rw [h1]; omega
  | ⟨2, _⟩ => show win0_0.index t (2 : Fin 4) * 32 + 1 * (j 2).val = (j 2).val; rw [h2]; omega
  | ⟨3, _⟩ => show win0_0.index t (3 : Fin 4) * 32 + 1 * (j 3).val = (j 3).val; rw [h3]; omega

/-- A point's position block is its own 512 columns of the position array. -/
theorem positions_block (t : Fin cfg0.N) (p : Fin 3072) (e : Fin 512) (d : Fin 4096) (hd : d.val = 512 * t.val + e.val) :
    (iblk m c 1 t : Vec Ideal S3072x512 .f32) (ix2 p e) = positions m c (ix2 p d) := by
  obtain ⟨-, ⟨h0, h1⟩, -⟩ := block_index t
  unfold iblk
  rw [View.read_apply]
  show V m c main_arg1 _ = m (c.tc.loc main_arg1) _
  unfold V
  congr 1
  funext a
  apply Fin.ext
  match a with
  | ⟨0, _⟩ => show win0_1.index t (0 : Fin 2) * 3072 + 1 * p.val = p.val; rw [h0]; omega
  | ⟨1, _⟩ => show win0_1.index t (1 : Fin 2) * 512 + 1 * e.val = d.val; rw [h1, hd]; omega

/-- A point's level block is its own 512 columns of the level array. -/
theorem levels_block (t : Fin cfg0.N) (l : Fin 256) (e : Fin 512) (d : Fin 4096) (hd : d.val = 512 * t.val + e.val) :
    (iblk m c 2 t : Vec Ideal S256x512 .f32) (ix2 l e) = levels m c (ix2 l d) := by
  obtain ⟨-, -, ⟨h0, h1⟩⟩ := block_index t
  unfold iblk
  rw [View.read_apply]
  show V m c main_arg2 _ = m (c.tc.loc main_arg2) _
  unfold V
  congr 1
  funext a
  apply Fin.ext
  match a with
  | ⟨0, _⟩ => show win0_2.index t (0 : Fin 2) * 256 + 1 * l.val = l.val; rw [h0]; omega
  | ⟨1, _⟩ => show win0_2.index t (1 : Fin 2) * 512 + 1 * e.val = d.val; rw [h1, hd]; omega

/-- After every point the carried buffer is the table of named levels, and the point's result block is computed from it. -/
theorem after_point : ∀ (n : ℕ) (h : n < cfg0.N),
    outsAt0 m c n h = (fired (named (images m c)) (iblk m c 1 ⟨n, h⟩) (iblk m c 2 ⟨n, h⟩), named (images m c))
  | 0, h => by
    rw [outsAt0_A m c ⟨0, h⟩ rfl, block_first, table_first, images_block]
  | n + 1, h => by
    have hN : cfg0.N = 8 := N_0
    have hB : ¬(⟨n + 1, h⟩ : Fin cfg0.N).val % 8 = 0 := by dsimp only; omega
    rw [outsAt0_B m c ⟨n + 1, h⟩ hB, block_later]
    unfold sout0_B_0
    have e : outsAt0 m c ((⟨n + 1, h⟩ : Fin cfg0.N).val - 1) (Nat.lt_of_le_of_lt (Nat.sub_le _ _) h) = outsAt0 m c n (Nat.lt_of_succ_lt h) := rfl
    rw [e, after_point n]

/-- The result array: component `d` for image `b` decides on the sum, over the 256 levels, of the summed positions of the
    pixels naming that level times the level's entry. -/
theorem result_apply (b : Fin 16) (d : Fin 4096) :
    Cert.KernelIdeal.Value.G3 m c (ix2 b d)
      = fire (∑ l : Fin 256, (∑ p : Fin 3072, (if BitVec.ofNat 32 l.val = level (pixel (images m c) b p) then 1 else 0) * positions m c (ix2 p d)) * levels m c (ix2 l d)) := by
  have hN : cfg0.N = 8 := N_0
  have hp : Cert.KernelIdeal.Value.pt3Of (ix2 b d) = d.val / 512 := by
    show 8 * (b.val / 16 - 0) + 1 * (d.val / 512 - 0) = _
    have := b.isLt; omega
  have hlt : d.val / 512 < cfg0.N := by have := d.isLt; omega
  unfold Cert.KernelIdeal.Value.G3
  rw [dif_pos (by rw [hp]; exact hlt), Cert.KernelIdeal.Value.fold0_congr m c _ _ _ (by omega) hp, ← Cert.KernelIdeal.Value.outsAt0_sweep m c _ hlt, after_point]
  unfold fired
  have e0 : b.val % 16 = b.val := by have := b.isLt; omega
  have e1 : (Cert.KernelIdeal.Value.loc3Of (ix2 b d) 1).val = d.val % 512 := rfl
  have hd : d.val = 512 * (⟨d.val / 512, hlt⟩ : Fin cfg0.N).val + (Cert.KernelIdeal.Value.loc3Of (ix2 b d) 1).val := by rw [e1]; dsimp only; omega
  dsimp only
  congr 1
  refine Finset.sum_congr rfl fun l _ => ?_
  rw [levels_block m c ⟨d.val / 512, hlt⟩ l _ d hd]
  congr 1
  refine Finset.sum_congr rfl fun p _ => ?_
  rw [positions_block m c ⟨d.val / 512, hlt⟩ p _ d hd]
  congr 1
  unfold named
  have hl : (256 * b.val + l.val) % 256 = l.val := by have := l.isLt; omega
  have hb : (256 * b.val + l.val) / 256 = b.val := by have := l.isLt; omega
  show (if BitVec.ofNat 32 ((256 * (b.val % 16) + l.val) % 256) = level (pixel (images m c) ⟨(256 * (b.val % 16) + l.val) / 256, _⟩ p) then (1 : EReal) else 0) = _
  simp only [e0, hl, hb]

end Cert.KernelIdeal.Fire

end
-- ==== Proof.Take.lean ====
module

public import proofs.«01_k».proof.Proof.Gen.ReferenceIdeal
public import Idealize.ShloMosaic.Lib.Pointwise

@[expose] public section

set_option maxRecDepth 16384

noncomputable section

/-! The reference's table lookup, read at one element. -/

namespace Cert.ReferenceIdeal.Fire

open Cert.ReferenceIdeal Cert.ReferenceIdeal.Gen Idealize.ShloMosaic Idealize.SL.Sem

/-- The lookup's dimension numbers. -/
abbrev look : GatherDims S256x4096 S16x3072x1 S16x3072x4096 := gather_S256x4096_S16x3072x1_S16x3072x4096_2_0_n_n_0_2_14096

/-- Where the lookup finds the row number for image `b`, pixel `p`. -/
theorem look_start (b : Fin 16) (p : Fin 3072) (d : Fin 4096) (k : Fin look.startIndexMap.length) : look.siIdx (ix3 b p d) k = ix3 b p 0 := by
  funext a
  apply Fin.ext
  match a with
  | ⟨0, _⟩ => rfl
  | ⟨1, _⟩ => rfl
  | ⟨2, _⟩ => exact Nat.lt_one_iff.1 k.isLt

/-- A lookup of row `n` at column `d` reads that entry of the table. -/
theorem look_apply {α : Type} (x : S256x4096.Idx → α) (idx : IVec S16x3072x1 32) (b : Fin 16) (p : Fin 3072) (d : Fin 4096) (n : Fin 256)
    (h : (idx (ix3 b p 0)).toInt = (n.val : Int)) : Host.gather look x idx (ix3 b p d) = x (ix2 n d) := by
  unfold Host.gather
  congr 1
  funext a
  apply Fin.ext
  match a with
  | ⟨0, _⟩ =>
    show min (idx (look.siIdx (ix3 b p d) ⟨0, _⟩)).toInt.toNat 255 + 0 + 0 = n.val
    rw [look_start, h]
    have := n.isLt
    omega
  | ⟨1, _⟩ => show 0 + 0 + d.val = d.val; omega

end Cert.ReferenceIdeal.Fire

end
-- ==== Proof.Reference.lean ====
module

public import proofs.«01_k».proof.Proof.Take
public import proofs.«01_k».proof.Proof.Rows
public import Idealize.ShloMosaic.Lib.ReduceAll
public import Idealize.ShloMosaic.Lib.WordCmp

@[expose] public section

set_option maxRecDepth 16384

noncomputable section

/-! What the reference computes, read at one element of its result. -/

namespace Cert.ReferenceIdeal.Fire

open Cert.ReferenceIdeal Cert.ReferenceIdeal.Gen Idealize.ShloMosaic Idealize.SL.Sem
open Cert.KernelIdeal.Fire (level pixel fire minus_one)

/-- The reference's level of every pixel. -/
def named (x : FVec Ideal S16x3x32x32 .f32) : IVec S16x3072 32 :=
  fptosi 32 (mulf (shapeCast S16x3072 x shapeCasts_S16x3x32x32_S16x3072) (broadcastInDim S16x3072 ![] bcast_S_S16x3072 (constant S_ .f32 0x437F0000#32)))

/-- The row the lookup takes for every pixel: a negative level counts from the end of the table. -/
def rows (v : IVec S16x3072 32) : IVec S16x3072x1 32 :=
  broadcastInDim S16x3072x1 ![0, 1] bcast_S16x3072_S16x3072x1_0_1
    (select (cmpi .slt v (broadcastInDim S16x3072 ![] bcast_S_S16x3072 (constantI S_ 32 0#32))) (addi v (broadcastInDim S16x3072 ![] bcast_S_S16x3072 (constantI S_ 32 256#32))) v)

/-- Which of those rows the table has, element by element. -/
def held (r : IVec S16x3072x1 32) : IVec S16x3072x1 1 :=
  andi (cmpi .sge r (broadcastInDim S16x3072x1 ![] bcast_S_S16x3072x1 (constantI S_ 32 0#32)))
    (cmpi .sle r (broadcastInDim S16x3072x1 ![0, 1, 2] bcast_S1x1x1_S16x3072x1_0_1_2 (broadcastInDim S1x1x1 ![2] bcast_S1_S1x1x1_2 (constantI S1 32 255#32))))

/-- Every pixel's level vector, the whole table read at the pixel's row. -/
def looked (tab : FVec Ideal S256x4096 .f32) (r : IVec S16x3072x1 32) : FVec Ideal S16x3072x4096 .f32 :=
  select (broadcastInDim S16x3072x4096 ![0, 1] bcast_S16x3072_S16x3072x4096_0_1 (Host.reduce IntOp.andi (held r) (constantI S_ 1 1#1) reducesTo_S16x3072x1_S16x3072_d2 h_S_))
    (Host.gather look tab r) (broadcastInDim S16x3072x4096 ![] bcast_S_S16x3072x4096 (constant (F := Ideal) S_ .f32 0x7FC00000#32))

/-- The reference's result as it is printed. -/
def answer (x : FVec Ideal S16x3x32x32 .f32) (pos : FVec Ideal S3072x4096 .f32) (tab : FVec Ideal S256x4096 .f32) : FVec Ideal S16x4096 .f32 :=
  select (cmpf .ogt (Host.reduceAdd (mulf (broadcastInDim S16x3072x4096 ![0, 1, 2] bcast_S1x3072x4096_S16x3072x4096_0_1_2 (broadcastInDim S1x3072x4096 ![1, 2] bcast_S3072x4096_S1x3072x4096_1_2 pos)) (looked tab (rows (named x))))
      (constant S_ .f32 0x00000000#32) reducesTo_S16x3072x4096_S16x4096_d1 h_S_) (broadcastInDim S16x4096 ![] bcast_S_S16x4096 (constant S_ .f32 0x00000000#32)))
    (broadcastInDim S16x4096 ![] bcast_S_S16x4096 (constant S_ .f32 0x3F800000#32)) (broadcastInDim S16x4096 ![] bcast_S_S16x4096 (constant S_ .f32 0xBF800000#32))

/-- The reference's level of pixel `p` of image `b` is that pixel's level. -/
theorem named_apply (x : FVec Ideal S16x3x32x32 .f32) (b : Fin 16) (p : Fin 3072) : named x (ix2 b p) = level (pixel x b p) := by
  pointwise [named]
  rfl

/-- A level that is not negative is its own row. -/
theorem rows_apply (v : IVec S16x3072 32) (b : Fin 16) (p : Fin 3072) (z : Fin 1) (h : 0 ≤ (v (ix2 b p)).toInt) : rows v (ix3 b p z) = v (ix2 b p) := by
  pointwise [rows]
  rw [WordCmp.cmpi_slt_eq, show ((0#32 : BitVec 32).toInt) = 0 from rfl, decide_eq_false (not_lt.2 h)]
  rfl

/-- Where every row is in the table, every element is held. -/
theorem held_apply (r : IVec S16x3072x1 32) (h : ∀ i, 0 ≤ (r i).toInt ∧ (r i).toInt ≤ 255) (i : S16x3072x1.Idx) : held r i = 1#1 := by
  obtain ⟨h0, h1⟩ := h i
  pointwise [held]
  rw [WordCmp.cmpi_sge_eq, WordCmp.cmpi_sle_eq, show ((0#32 : BitVec 32).toInt) = 0 from rfl, show ((255#32 : BitVec 32).toInt) = 255 from rfl,
    decide_eq_true h0, decide_eq_true h1]
  rfl

/-- Where every row is in the table, a pixel's level vector is its row of the table. -/
theorem looked_apply (tab : FVec Ideal S256x4096 .f32) (r : IVec S16x3072x1 32) (h : ∀ i, 0 ≤ (r i).toInt ∧ (r i).toInt ≤ 255)
    (b : Fin 16) (p : Fin 3072) (d : Fin 4096) (n : Fin 256) (hn : (r (ix3 b p 0)).toInt = (n.val : Int)) : looked tab r (ix3 b p d) = tab (ix2 n d) := by
  unfold looked
  pointwise
  rw [Finset.univ_unique, Finset.fold_singleton, held_apply r h, look_apply tab r b p d n hn]
  rfl

/-- The reference's component `d` for image `b`: the sum over the pixels of the position's entry times the named level's
    entry, decided on. -/
theorem answer_apply (x : FVec Ideal S16x3x32x32 .f32) (pos : FVec Ideal S3072x4096 .f32) (tab : FVec Ideal S256x4096 .f32)
    (n : Fin 16 → Fin 3072 → Fin 256) (hn : ∀ b p, (level (pixel x b p)).toInt = ((n b p).val : Int)) (b : Fin 16) (d : Fin 4096) :
    answer x pos tab (ix2 b d) = fire (∑ p : Fin 3072, pos (ix2 p d) * tab (ix2 (n b p) d)) := by
  have hr : ∀ b p z, rows (named x) (ix3 b p z) = level (pixel x b p) := fun b p z => by
    rw [rows_apply _ b p z (by rw [named_apply, hn]; omega), named_apply]
  have hin : ∀ i, 0 ≤ (rows (named x) i).toInt ∧ (rows (named x) i).toInt ≤ 255 := fun i => by
    have hz : ∀ b p z, 0 ≤ (rows (named x) (ix3 b p z)).toInt ∧ (rows (named x) (ix3 b p z)).toInt ≤ 255 := fun b p z => by
      rw [hr, hn]
      omega
    rw [eq_ix3 i]
    exact hz _ _ _
  have hl : ∀ p, looked tab (rows (named x)) (ix3 b p d) = tab (ix2 (n b p) d) := fun p =>
    looked_apply tab _ hin b p d (n b p) (by rw [hr, hn])
  pointwise [answer]
  rw [Finset.sum_congr rfl fun p _ => by rw [hl p], minus_one]
  rfl

end Cert.ReferenceIdeal.Fire

end
-- ==== Proof.Pre.lean ====
module

public import proofs.«01_k».proof.Proof.Rows
public import proofs.«01_k».proof.Pre_levels_exist
public import Idealize.ShloMosaic.Lib.ReduceAll
public import Idealize.ShloMosaic.Lib.WordCmp

@[expose] public section

set_option maxRecDepth 16384

noncomputable section

/-! What the precondition says of the three arrays, element by element. -/

namespace Cert.Pre_levels_exist.Fire

open Cert.Pre_levels_exist Idealize.ShloMosaic Idealize.SL.Sem
open Cert.KernelIdeal.Fire (level)

variable [Facts]

instance : Subsingleton S_.Idx := ⟨fun a b => funext fun k => k.elim0⟩

/-- A comparison's bit is one only when the comparison holds. -/
theorem of_bit {q : Prop} [Decidable q] (h : BitVec.ofBool (decide q) = 1#1) : q := by
  by_contra hc
  rw [decide_eq_false hc] at h
  exact absurd h (by decide)

/-- A number whose absolute value is below infinity is a real number. -/
theorem real_of_bounded (a : EReal) (h : FloatOps.cmpf (F := Ideal) (φ := .f32) .olt (FloatOps.absf (F := Ideal) (φ := .f32) a) (Ideal.ofBits .f32 0x7F800000#32) = 1#1) : ∃ r : ℝ, a = (r : EReal) := by
  have hb : Ideal.ofBits .f32 0x7F800000#32 = ⊤ := by
    simp [Ideal.ofBits, Ideal.ieee]
  rw [hb] at h
  have h : BitVec.ofBool (decide (max a (-a) < ⊤)) = 1#1 := h
  have h := of_bit h
  obtain ⟨ht, hn⟩ := max_lt_iff.1 h
  refine ⟨a.toReal, (EReal.coe_toReal ht.ne fun e => ?_).symm⟩
  rw [e] at hn
  exact absurd hn (by simp)

/-- The three conditions the precondition joins. -/
theorem parts {x : FVec Ideal S16x3x32x32 .f32} {pos : FVec Ideal S3072x4096 .f32} {tab : FVec Ideal S256x4096 .f32} (h : fn x pos tab = fun _ => 1#1) :
    (∀ i, 0 ≤ (level (x i)).toInt ∧ (level (x i)).toInt ≤ 255) ∧ (∀ i, ∃ r : ℝ, pos i = (r : EReal)) ∧ (∀ i, ∃ r : ℝ, tab i = (r : EReal)) := by
  have e := congrFun h (fun k => k.elim0)
  obtain ⟨e, e3⟩ := IntOp.andi_eq_one.1 e
  obtain ⟨e1, e2⟩ := IntOp.andi_eq_one.1 e
  refine ⟨fun i => ?_, fun i => ?_, fun i => ?_⟩
  · have := Host.reduce_andi_all _ _ _ _ _ e1 i
    pointwise at this
    obtain ⟨h0, h1⟩ := IntOp.andi_eq_one.1 this
    rw [WordCmp.cmpi_sge_eq] at h0
    rw [WordCmp.cmpi_sle_eq] at h1
    exact ⟨of_bit h0, of_bit h1⟩
  · have := Host.reduce_andi_all _ _ _ _ _ e2 i
    exact real_of_bounded _ this
  · have := Host.reduce_andi_all _ _ _ _ _ e3 i
    exact real_of_bounded _ this

end Cert.Pre_levels_exist.Fire

end
-- ==== Proof.Equation.lean ====
module

public import Idealize.ShloMosaic.PureOps
public import Idealize.ShloMosaic.Lib.IdealHost

@[expose] public section

noncomputable section

/-! The equation between the two ways of binding the positions to the levels. -/

namespace Cert.Fire

/-- A finite sum of real numbers, taken among the extended reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Adding the positions level by level and weighing each total by its level is adding every position weighed by the
    level it names, when all the entries are real numbers. -/
theorem bound {P L : Type} [Fintype P] [Fintype L] [DecidableEq L] (n : P → L) (pos : P → EReal) (tab : L → EReal)
    (hpos : ∀ p, ∃ r : ℝ, pos p = (r : EReal)) (htab : ∀ l, ∃ r : ℝ, tab l = (r : EReal)) :
    ∑ l, (∑ p, (if l = n p then 1 else 0) * pos p) * tab l = ∑ p, pos p * tab (n p) := by
  choose q hq using hpos
  choose t ht using htab
  have hone : ∀ l p, ((if l = n p then 1 else 0 : EReal)) = ((if l = n p then 1 else 0 : ℝ) : EReal) := fun l p => by
    split <;> simp
  simp only [hq, ht, hone, ← EReal.coe_mul, sum_real]
  refine congrArg _ ?_
  simp only [Finset.sum_mul]
  rw [Finset.sum_comm]
  refine Finset.sum_congr rfl fun p _ => ?_
  rw [Finset.sum_eq_single (n p)]
  · simp
  · intro l _ hl
    simp [hl]
  · simp

/-- A level's word is the word of row `l` exactly when it names row `l`. -/
theorem word_eq_iff (v : BitVec 32) (l n : Fin 256) (h : v.toInt = (n.val : Int)) : BitVec.ofNat 32 l.val = v ↔ l = n := by
  have hv : v = BitVec.ofNat 32 n.val := by
    rw [← BitVec.ofInt_toInt (x := v), h, BitVec.ofInt_natCast]
  rw [hv, ← BitVec.toNat_inj, BitVec.toNat_ofNat, BitVec.toNat_ofNat, Fin.ext_iff]
  omega

end Cert.Fire

end
-- ==== Proof.Tie.lean ====
module

public import proofs.«01_k».proof.Defs
public import proofs.«01_k».proof.Proof.Array
public import proofs.«01_k».proof.Proof.Reference
public import proofs.«01_k».proof.Proof.Pre
public import proofs.«01_k».proof.Proof.Equation

@[expose] public section

set_option maxRecDepth 16384

noncomputable section

/-! The kernel's array is the reference's array on the inputs the precondition admits. -/

namespace Cert.Fire

open Idealize.ShloMosaic Idealize.ShloMosaic.TcCoe Idealize.SL.Sem
open Cert.KernelIdeal.Fire (level pixel images positions levels result_apply)
open Cert.ReferenceIdeal.Fire (answer answer_apply)

variable (m : (ℓ : Loc Cert.KernelIdeal.nD Cert.KernelIdeal.τ Cert.KernelIdeal.sig) → Buf (Elt Ideal) ℓ) (c : Dev Cert.KernelIdeal.nD)

/-- A word that reads between 0 and 255 names a row of the table. -/
theorem row_exists (v : BitVec 32) (h : 0 ≤ v.toInt ∧ v.toInt ≤ 255) : ∃ n : Fin 256, v.toInt = (n.val : Int) :=
  ⟨⟨v.toInt.toNat, by omega⟩, (Int.toNat_of_nonneg h.1).symm⟩

/-- Both programs decide on the same sum for every image and component. -/
theorem arrays_agree [Cert.Pre_levels_exist.Facts] (hpre : Cert.Pre_KernelIdeal_levels_exist m) :
    answer (images m c) (positions m c) (levels m c) = Cert.KernelIdeal.Value.G3 m c := by
  obtain ⟨hlevel, hpos, htab⟩ := Cert.Pre_levels_exist.Fire.parts (hpre c)
  choose n hn using fun b p => row_exists (level (pixel (images m c) b p)) (hlevel _)
  have hi : ∀ (b : Fin 16) (d : Fin 4096), answer (images m c) (positions m c) (levels m c) (ix2 b d) = Cert.KernelIdeal.Value.G3 m c (ix2 b d) := fun b d => by
    rw [result_apply, answer_apply _ _ _ n hn]
    simp only [word_eq_iff _ _ _ (hn _ _)]
    rw [bound (n b) (fun p => positions m c (ix2 p d)) (fun l => levels m c (ix2 l d)) (fun _ => hpos _) (fun _ => htab _)]
  funext j
  rw [eq_ix2 j]
  exact hi _ _

end Cert.Fire

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_levels_exist
public import proofs.«01_k».proof.Proof.Gen.ReferenceIdeal.Run
public import proofs.«01_k».proof.Proof.Tie
public import Idealize.ShloMosaic.Adequacy
public import Idealize.ShloMosaic.Init
public import Idealize.ShloMosaic.Lib.Quiescent

@[expose] public section

noncomputable section

namespace Cert.Proof

open Idealize.ShloMosaic Idealize.SL.Sem

/-- The reference runs from every memory, leaves its arguments alone and every counter at zero. -/
theorem reference_quiescent : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with the same array. -/
theorem results_equal : algebraic_KernelIdeal_ReferenceIdeal_pre_levels_exist := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, ← Cert.Fire.arrays_agree m c hpre]
  simp only [hagree c]
  rfl

/-- Everything claimed. -/
theorem claim : Cert.Claim :=
  ⟨Cert.Kernel.Gen.facts, Cert.KernelIdeal.Gen.facts, Cert.ReferenceIdeal.Gen.facts, Cert.Pre_levels_exist.Gen.facts,
    fun m ρ _ => Cert.Kernel.Gen.frame m ρ, fun m ρ _ => Cert.KernelIdeal.Gen.frame m ρ, fun m ρ _ => Cert.KernelIdeal.Gen.frame m ρ,
    reference_quiescent, fun m ρ _ => reference_quiescent m ρ trivial, (trivial : preserves_Kernel_KernelIdeal), results_equal⟩

end Cert.Proof

end
